-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_vocab [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab [hPre_ids_in_vocab : Cert.Pre_ids_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_in_vocab [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_vocab [hReferenceIdeal : Cert.ReferenceIdeal.Facts] [hPre_ids_in_vocab : Cert.Pre_ids_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_in_vocab [hKernelIdeal : Cert.KernelIdeal.Facts] [hReferenceIdeal : Cert.ReferenceIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts),
    quiescent_Kernel (hKernel := hKernel)
    ∧ quiescent_KernelIdeal (hKernelIdeal := hKernelIdeal)
    ∧ quiescent_KernelIdeal_pre_ids_in_vocab (hKernelIdeal := hKernelIdeal) (hPre_ids_in_vocab := hPre_ids_in_vocab)
    ∧ quiescent_ReferenceIdeal (hReferenceIdeal := hReferenceIdeal)
    ∧ quiescent_ReferenceIdeal_pre_ids_in_vocab (hReferenceIdeal := hReferenceIdeal) (hPre_ids_in_vocab := hPre_ids_in_vocab)
    ∧ preserves_Kernel_KernelIdeal
    ∧ algebraic_KernelIdeal_ReferenceIdeal_pre_ids_in_vocab (hKernelIdeal := hKernelIdeal) (hReferenceIdeal := hReferenceIdeal) (hPre_ids_in_vocab := hPre_ids_in_vocab)
-- ==== Pre_ids_in_vocab.lean ====
abbrev S4096x50 : Shape := ⟨2, ![4096, 50]⟩
abbrev S1000x1x16x12 : Shape := ⟨4, ![1000, 1, 16, 12]⟩
abbrev S1000x16x1x11 : Shape := ⟨4, ![1000, 16, 1, 11]⟩
abbrev S16 : Shape := ⟨1, ![16]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S1000x1x16x12 .f32) (main_arg2 : FVec F S1000x16x1x11 .f32) (main_arg3 : FVec F S16 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 1000000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S1000x1x16x12 : Shape := ⟨4, ![1000, 1, 16, 12]⟩
abbrev S1000x16x1x11 : Shape := ⟨4, ![1000, 16, 1, 11]⟩
abbrev S16 : Shape := ⟨1, ![16]⟩
abbrev S1000x16x12 : Shape := ⟨3, ![1000, 16, 12]⟩
abbrev S1000x12x16 : Shape := ⟨3, ![1000, 12, 16]⟩
abbrev S1000x192 : Shape := ⟨2, ![1000, 192]⟩
abbrev S1000x16x11 : Shape := ⟨3, ![1000, 16, 11]⟩
abbrev S1000x11x16 : Shape := ⟨3, ![1000, 11, 16]⟩
abbrev S1000x176 : Shape := ⟨2, ![1000, 176]⟩
abbrev S16x1 : Shape := ⟨2, ![16, 1]⟩
abbrev S32x1x6400 : Shape := ⟨3, ![32, 1, 6400]⟩
abbrev S4096x50x128 : Shape := ⟨3, ![4096, 50, 128]⟩
abbrev S1x1x6400 : Shape := ⟨3, ![1, 1, 6400]⟩
abbrev S128x50x128 : Shape := ⟨3, ![128, 50, 128]⟩
abbrev S1x6400 : Shape := ⟨2, ![1, 6400]⟩
abbrev S1000x6400 : Shape := ⟨2, ![1000, 6400]⟩
abbrev S192x6400 : Shape := ⟨2, ![192, 6400]⟩
abbrev S176x6400 : Shape := ⟨2, ![176, 6400]⟩
abbrev S16x6400 : Shape := ⟨2, ![16, 6400]⟩
abbrev S8x6400 : Shape := ⟨2, ![8, 6400]⟩
abbrev S6400 : Shape := ⟨1, ![6400]⟩
abbrev S128x6400 : Shape := ⟨2, ![128, 6400]⟩
abbrev S6400x128 : Shape := ⟨2, ![6400, 128]⟩

abbrev nBuf : Space → Nat
  | .hbm => 15
  | .vmem => 7
  | .smem => 0
  | _ => 0

abbrev bufTy : (tb : Table) → Fin (tcTables nBuf tb) → BufTy
  | .hbm, ⟨0, _⟩ => ⟨S4096x50, .i32⟩
  | .hbm, ⟨1, _⟩ => ⟨S1000x1x16x12, .f32⟩
  | .hbm, ⟨2, _⟩ => ⟨S1000x16x1x11, .f32⟩
  | .hbm, ⟨3, _⟩ => ⟨S16, .f32⟩
  | .hbm, ⟨4, _⟩ => ⟨S1000x16x12, .f32⟩
  | .hbm, ⟨5, _⟩ => ⟨S1000x12x16, .f32⟩
  | .hbm, ⟨6, _⟩ => ⟨S1000x192, .f32⟩
  | .hbm, ⟨7, _⟩ => ⟨S1000x192, .bf16⟩
  | .hbm, ⟨8, _⟩ => ⟨S1000x16x11, .f32⟩
  | .hbm, ⟨9, _⟩ => ⟨S1000x11x16, .f32⟩
  | .hbm, ⟨10, _⟩ => ⟨S1000x176, .f32⟩
  | .hbm, ⟨11, _⟩ => ⟨S1000x176, .bf16⟩
  | .hbm, ⟨12, _⟩ => ⟨S16x1, .f32⟩
  | .hbm, ⟨13, _⟩ => ⟨S32x1x6400, .i32⟩
  | .hbm, ⟨14, _⟩ => ⟨S4096x50x128, .f32⟩
  | .local _ .vmem, ⟨0, _⟩ => ⟨S1x1x6400, .i32⟩
  | .local _ .vmem, ⟨1, _⟩ => ⟨S1x1x6400, .i32⟩
  | .local _ .vmem, ⟨2, _⟩ => ⟨S1000x192, .bf16⟩
  | .local _ .vmem, ⟨3, _⟩ => ⟨S1000x176, .bf16⟩
  | .local _ .vmem, ⟨4, _⟩ => ⟨S16x1, .f32⟩
  | .local _ .vmem, ⟨5, _⟩ => ⟨S128x50x128, .f32⟩
  | .local _ .vmem, ⟨6, _⟩ => ⟨S128x50x128, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x6400 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x50x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x50 : Shape := ⟨2, ![4096, 50]⟩
abbrev S1000x1x16x12 : Shape := ⟨4, ![1000, 1, 16, 12]⟩
abbrev S1000x16x1x11 : Shape := ⟨4, ![1000, 16, 1, 11]⟩
abbrev S16 : Shape := ⟨1, ![16]⟩
abbrev S_ : Shape := ⟨0, ![]⟩
abbrev S1000x16x12 : Shape := ⟨3, ![1000, 16, 12]⟩
abbrev S4096x50x1 : Shape := ⟨3, ![4096, 50, 1]⟩
abbrev S1 : Shape := ⟨1, ![1]⟩
abbrev S1x1x1 : Shape := ⟨3, ![1, 1, 1]⟩
abbrev S4096x50x16x12 : Shape := ⟨4, ![4096, 50, 16, 12]⟩
abbrev S1000x16x11 : Shape := ⟨3, ![1000, 16, 11]⟩
abbrev S4096x50x16x11 : Shape := ⟨4, ![4096, 50, 16, 11]⟩
abbrev S1x1x16x1 : Shape := ⟨4, ![1, 1, 16, 1]⟩
abbrev S4096x50x12x11 : Shape := ⟨4, ![4096, 50, 12, 11]⟩
abbrev S4096x50x132 : Shape := ⟨3, ![4096, 50, 132]⟩
abbrev S4096x50x128 : Shape := ⟨3, ![4096, 50, 128]⟩

abbrev nBuf : Space → Nat
  | .hbm => 115
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000x1x16x12, .f32⟩
  | .hbm, ⟨2, _⟩ => ⟨S1000x16x1x11, .f32⟩
  | .hbm, ⟨3, _⟩ => ⟨S16, .f32⟩
  | .hbm, ⟨4, _⟩ => ⟨S_, .i32⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S_, .i32⟩
  | .hbm, ⟨10, _⟩ => ⟨S4096x50, .i32⟩
  | .hbm, ⟨11, _⟩ => ⟨S4096x50, .i1⟩
  | .hbm, ⟨12, _⟩ => ⟨S4096x50, .i32⟩
  | .hbm, ⟨13, _⟩ => ⟨S4096x50, .i32⟩
  | .hbm, ⟨14, _⟩ => ⟨S_, .i32⟩
  | .hbm, ⟨15, _⟩ => ⟨S4096x50, .i32⟩
  | .hbm, ⟨16, _⟩ => ⟨S4096x50, .i1⟩
  | .hbm, ⟨17, _⟩ => ⟨S4096x50, .i1⟩
  | .hbm, ⟨18, _⟩ => ⟨S_, .i32⟩
  | .hbm, ⟨19, _⟩ => ⟨S4096x50, .i32⟩
  | .hbm, ⟨20, _⟩ => ⟨S4096x50, .i32⟩
  | .hbm, ⟨21, _⟩ => ⟨S4096x50, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4096x50, .i32⟩
  | .hbm, ⟨26, _⟩ => ⟨S4096x50, .i32⟩
  | .hbm, ⟨27, _⟩ => ⟨S_, .i32⟩
  | .hbm, ⟨28, _⟩ => ⟨S4096x50, .i32⟩
  | .hbm, ⟨29, _⟩ => ⟨S4096x50, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S4096x50, .i32⟩
  | .hbm, ⟨37, _⟩ => ⟨S4096x50, .i32⟩
  | .hbm, ⟨38, _⟩ => ⟨S_, .i32⟩
  | .hbm, ⟨39, _⟩ => ⟨S4096x50, .i32⟩
  | .hbm, ⟨40, _⟩ => ⟨S4096x50, .i1⟩
  | .hbm, ⟨41, _⟩ => ⟨S_, .i32⟩
  | .hbm, ⟨42, _⟩ => ⟨S4096x50, .i32⟩
  | .hbm, ⟨43, _⟩ => ⟨S4096x50, .i1⟩
  | .hbm, ⟨44, _⟩ => ⟨S_, .i32⟩
  | .hbm, ⟨45, _⟩ => ⟨S_, .i1⟩
  | .hbm, ⟨46, _⟩ => ⟨S4096x50, .i1⟩
  | .hbm, ⟨47, _⟩ => ⟨S4096x50, .i1⟩
  | .hbm, ⟨48, _⟩ => ⟨S4096x50, .i1⟩
  | .hbm, ⟨49, _⟩ => ⟨S4096x50, .i32⟩
  | .hbm, ⟨50, _⟩ => ⟨S4096x50, .i32⟩
  | .hbm, ⟨51, _⟩ => ⟨S4096x50, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S4096x50, .i32⟩
  | .hbm, ⟨56, _⟩ => ⟨S4096x50, .i32⟩
  | .hbm, ⟨57, _⟩ => ⟨S_, .i32⟩
  | .hbm, ⟨58, _⟩ => ⟨S4096x50, .i32⟩
  | .hbm, ⟨59, _⟩ => ⟨S4096x50, .i32⟩
  | .hbm, ⟨60, _⟩ => ⟨S1000x16x12, .f32⟩
  | .hbm, ⟨61, _⟩ => ⟨S_, .i32⟩
  | .hbm, ⟨62, _⟩ => ⟨S4096x50, .i32⟩
  | .hbm, ⟨63, _⟩ => ⟨S4096x50, .i1⟩
  | .hbm, ⟨64, _⟩ => ⟨S_, .i32⟩
  | .hbm, ⟨65, _⟩ => ⟨S4096x50, .i32⟩
  | .hbm, ⟨66, _⟩ => ⟨S4096x50, .i32⟩
  | .hbm, ⟨67, _⟩ => ⟨S4096x50, .i32⟩
  | .hbm, ⟨68, _⟩ => ⟨S4096x50x1, .i32⟩
  | .hbm, ⟨69, _⟩ => ⟨S1, .i32⟩
  | .hbm, ⟨70, _⟩ => ⟨S_, .i32⟩
  | .hbm, ⟨71, _⟩ => ⟨S4096x50x1, .i32⟩
  | .hbm, ⟨72, _⟩ => ⟨S4096x50x1, .i1⟩
  | .hbm, ⟨73, _⟩ => ⟨S1x1x1, .i32⟩
  | .hbm, ⟨74, _⟩ => ⟨S4096x50x1, .i32⟩
  | .hbm, ⟨75, _⟩ => ⟨S4096x50x1, .i1⟩
  | .hbm, ⟨76, _⟩ => ⟨S4096x50x1, .i1⟩
  | .hbm, ⟨77, _⟩ => ⟨S_, .i1⟩
  | .hbm, ⟨78, _⟩ => ⟨S4096x50, .i1⟩
  | .hbm, ⟨79, _⟩ => ⟨S4096x50x16x12, .f32⟩
  | .hbm, ⟨80, _⟩ => ⟨S4096x50x16x12, .i1⟩
  | .hbm, ⟨81, _⟩ => ⟨S_, .f32⟩
  | .hbm, ⟨82, _⟩ => ⟨S4096x50x16x12, .f32⟩
  | .hbm, ⟨83, _⟩ => ⟨S4096x50x16x12, .f32⟩
  | .hbm, ⟨84, _⟩ => ⟨S1000x16x11, .f32⟩
  | .hbm, ⟨85, _⟩ => ⟨S_, .i32⟩
  | .hbm, ⟨86, _⟩ => ⟨S4096x50, .i32⟩
  | .hbm, ⟨87, _⟩ => ⟨S4096x50, .i1⟩
  | .hbm, ⟨88, _⟩ => ⟨S_, .i32⟩
  | .hbm, ⟨89, _⟩ => ⟨S4096x50, .i32⟩
  | .hbm, ⟨90, _⟩ => ⟨S4096x50, .i32⟩
  | .hbm, ⟨91, _⟩ => ⟨S4096x50, .i32⟩
  | .hbm, ⟨92, _⟩ => ⟨S4096x50x1, .i32⟩
  | .hbm, ⟨93, _⟩ => ⟨S1, .i32⟩
  | .hbm, ⟨94, _⟩ => ⟨S_, .i32⟩
  | .hbm, ⟨95, _⟩ => ⟨S4096x50x1, .i32⟩
  | .hbm, ⟨96, _⟩ => ⟨S4096x50x1, .i1⟩
  | .hbm, ⟨97, _⟩ => ⟨S1x1x1, .i32⟩
  | .hbm, ⟨98, _⟩ => ⟨S4096x50x1, .i32⟩
  | .hbm, ⟨99, _⟩ => ⟨S4096x50x1, .i1⟩
  | .hbm, ⟨100, _⟩ => ⟨S4096x50x1, .i1⟩
  | .hbm, ⟨101, _⟩ => ⟨S_, .i1⟩
  | .hbm, ⟨102, _⟩ => ⟨S4096x50, .i1⟩
  | .hbm, ⟨103, _⟩ => ⟨S4096x50x16x11, .f32⟩
  | .hbm, ⟨104, _⟩ => ⟨S4096x50x16x11, .i1⟩
  | .hbm, ⟨105, _⟩ => ⟨S_, .f32⟩
  | .hbm, ⟨106, _⟩ => ⟨S4096x50x16x11, .f32⟩
  | .hbm, ⟨107, _⟩ => ⟨S4096x50x16x11, .f32⟩
  | .hbm, ⟨108, _⟩ => ⟨S16, .f32⟩
  | .hbm, ⟨109, _⟩ => ⟨S1x1x16x1, .f32⟩
  | .hbm, ⟨110, _⟩ => ⟨S4096x50x16x12, .f32⟩
  | .hbm, ⟨111, _⟩ => ⟨S4096x50x16x12, .f32⟩
  | .hbm, ⟨112, _⟩ => ⟨S4096x50x12x11, .f32⟩
  | .hbm, ⟨113, _⟩ => ⟨S4096x50x132, .f32⟩
  | .hbm, ⟨114, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v1 : Ref sig .tc := ⟨.hbm, 29, rfl⟩
abbrev main_c_2 : Ref sig .tc := ⟨.hbm, 30, rfl⟩
abbrev main_call2_v0 : Ref sig .tc := ⟨.hbm, 31, rfl⟩
abbrev main_call2_c : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_c_1 : Ref sig .tc := ⟨.hbm, 38, rfl⟩
abbrev main_call2_v5 : Ref sig .tc := ⟨.hbm, 39, rfl⟩
abbrev main_call2_v6 : Ref sig .tc := ⟨.hbm, 40, rfl⟩
abbrev main_call2_c_2 : Ref sig .tc := ⟨.hbm, 41, rfl⟩
abbrev main_call2_v7 : Ref sig .tc := ⟨.hbm, 42, rfl⟩
abbrev main_call2_v8 : Ref sig .tc := ⟨.hbm, 43, rfl⟩
abbrev main_call2_c_3 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_v2 : Ref sig .tc := ⟨.hbm, 51, rfl⟩
abbrev main_c_3 : Ref sig .tc := ⟨.hbm, 52, rfl⟩
abbrev main_c_4 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v3 : Ref sig .tc := ⟨.hbm, 59, rfl⟩
abbrev main_v4 : Ref sig .tc := ⟨.hbm, 60, rfl⟩
abbrev main_call4_c : Ref sig .tc := ⟨.hbm, 61, rfl⟩
abbrev main_call4_v0 : Ref sig .tc := ⟨.hbm, 62, rfl⟩
abbrev main_call4_v1 : Ref sig .tc := ⟨.hbm, 63, rfl⟩
abbrev main_call4_c_0 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_call4_v5 : Ref sig .tc := ⟨.hbm, 68, rfl⟩
abbrev main_call4_c_1 : Ref sig .tc := ⟨.hbm, 69, rfl⟩
abbrev main_call4_c_2 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_v9 : Ref sig .tc := ⟨.hbm, 74, rfl⟩
abbrev main_call4_v10 : Ref sig .tc := ⟨.hbm, 75, rfl⟩
abbrev main_call4_v11 : Ref sig .tc := ⟨.hbm, 76, rfl⟩
abbrev main_call4_c_3 : Ref sig .tc := ⟨.hbm, 77, rfl⟩
abbrev main_call4_v12 : Ref sig .tc := ⟨.hbm, 78, rfl⟩
abbrev main_call4_v13 : Ref sig .tc := ⟨.hbm, 79, rfl⟩
abbrev main_call4_v14 : Ref sig .tc := ⟨.hbm, 80, rfl⟩
abbrev main_call4_cst : Ref sig .tc := ⟨.hbm, 81, rfl⟩
abbrev main_call4_v15 : Ref sig .tc := ⟨.hbm, 82, rfl⟩
abbrev main_v5 : Ref sig .tc := ⟨.hbm, 83, rfl⟩
abbrev main_v6 : Ref sig .tc := ⟨.hbm, 84, rfl⟩
abbrev main_call5_c : Ref sig .tc := ⟨.hbm, 85, rfl⟩
abbrev main_call5_v0 : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_c_1 : Ref sig .tc := ⟨.hbm, 93, rfl⟩
abbrev main_call5_c_2 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_3 : Ref sig .tc := ⟨.hbm, 101, rfl⟩
abbrev main_call5_v12 : Ref sig .tc := ⟨.hbm, 102, rfl⟩
abbrev main_call5_v13 : Ref sig .tc := ⟨.hbm, 103, rfl⟩
abbrev main_call5_v14 : Ref sig .tc := ⟨.hbm, 104, rfl⟩
abbrev main_call5_cst : Ref sig .tc := ⟨.hbm, 105, rfl⟩
abbrev main_call5_v15 : Ref sig .tc := ⟨.hbm, 106, rfl⟩
abbrev main_v7 : Ref sig .tc := ⟨.hbm, 107, rfl⟩
abbrev main_v8 : Ref sig .tc := ⟨.hbm, 108, rfl⟩
abbrev main_v9 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩

abbrev nD : Nat := 1
abbrev τ : Topo := Topo.v7x

variable {F : FTy → Type} [FloatOps F]
-- ==== Proof.Word.lean ====
/-
  The index words of one token.

  A token id `n` below 1000000 is split into `n / 1000` and `n % 1000`.  The kernel computes the quotient as the floor of
  `n` times the single-precision number nearest to one thousandth, and the remainder by subtracting a thousand times the
  quotient.  This file shows that both words come out right on the whole range of ids.
-/
module

public import Idealize.ShloMosaic.PureOps.Ideal

@[expose] public section

noncomputable section

namespace Cert.TT

open Idealize.ShloMosaic

/-- The single-precision number nearest to 1/1000, as a fraction. -/
theorem thousandth_value : Ideal.ofBits .f32 0x3A83126F#32 = ((8589935 / 8589934592 : ℝ) : EReal) := by
  simp [Ideal.ofBits, Ideal.ieee, -EReal.coe_mul]; norm_num

/-- That fraction exceeds 1/1000 by so little that, below a million, the floor of a multiple is the quotient by 1000. -/
theorem floor_thousandth (n : ℕ) (hn : n < 1000000) : ⌊(n : ℝ) * (8589935 / 8589934592)⌋ = ((n / 1000 : ℕ) : ℤ) := by
  have hlo : 8589934592 * (n / 1000) ≤ n * 8589935 := by omega
  have hhi : n * 8589935 < 8589934592 * (n / 1000 + 1) := by omega
  have hlo' : (8589934592 : ℝ) * ((n / 1000 : ℕ) : ℝ) ≤ n * 8589935 := by exact_mod_cast hlo
  have hhi' : (n : ℝ) * 8589935 < 8589934592 * (((n / 1000 : ℕ) : ℝ) + 1) := by exact_mod_cast hhi
  rw [Int.floor_eq_iff]
  constructor
  · rw [Int.cast_natCast]; linarith
  · rw [Int.cast_natCast]; linarith

/-- A word below 2^31 reads the same signed and unsigned. -/
theorem toInt_small (b : BitVec 32) (hb : b.toNat < 1000000) : b.toInt = (b.toNat : ℤ) := by
  rw [BitVec.toInt_eq_toNat_cond]; split <;> omega

/-- The kernel's first index word of an id below a million is the quotient by 1000. -/
theorem quot_word (b : BitVec 32) (hb : b.toNat < 1000000) :
    Ideal.fptosi 32 (Ideal.liftRound Int.floor (((b.toInt : ℝ) : EReal) * Ideal.ofBits .f32 0x3A83126F#32))
      = BitVec.ofNat 32 (b.toNat / 1000) := by
  have hz : (0 : ℝ) ≤ ((⌊((b.toNat : ℤ) : ℝ) * (8589935 / 8589934592)⌋ : ℤ) : ℝ) := by
    rw [Int.cast_natCast, floor_thousandth _ hb]; positivity
  rw [toInt_small b hb, thousandth_value, ← EReal.coe_mul, Ideal.liftRound_coe, Ideal.fptosi, Ideal.toIntClamped_coe,
    if_pos hz, Int.floor_intCast, Int.cast_natCast, floor_thousandth _ hb, ← BitVec.ofInt_natCast]
  congr 1
  norm_num
  omega

/-- The kernel's second index word of an id below a million is the remainder by 1000. -/
theorem rem_word (b : BitVec 32) :
    b - BitVec.ofNat 32 (b.toNat / 1000) * 1000#32 = BitVec.ofNat 32 (b.toNat % 1000) := by
  apply BitVec.eq_of_toNat_eq
  have := b.isLt
  simp only [BitVec.toNat_sub, BitVec.toNat_mul, BitVec.toNat_ofNat]
  omega

end Cert.TT

end
-- ==== Proof.Lookup.lean ====
/-
  The kernel's table lookups.

  The kernel fetches a row of a table by a matrix product with a one-hot matrix: column `j` of the one-hot matrix has a one
  at the row that token `j`'s index word names and zeros elsewhere.  This file reads the two products element by element.
-/
module

public import proofs.«01_k».proof.Proof.Gen.KernelIdeal.Frame
public import proofs.«01_k».proof.Proof.Word
public import Idealize.ShloMosaic.Lib.Pointwise

@[expose] public section

set_option maxRecDepth 16384

noncomputable section

namespace Cert.TT

open Idealize.ShloMosaic Cert.KernelIdeal Cert.KernelIdeal.Gen

/-- The index word of token `j` for the first table is its id over 1000. -/
theorem first_word (ids : Vec Ideal S1x1x6400 .i32) (j : Fin 6400) (hj : (ids (ix3 0 0 j)).toNat < 1000000) :
    k0_pay2 ids (ix2 0 j) = BitVec.ofNat 32 ((ids (ix3 0 0 j)).toNat / 1000) := by
  pointwise [k0_pay2, k0_pay1]
  exact quot_word _ hj

/-- The entry of a one-hot matrix in row `x`, as a number: one where `x` is the wanted row `q`, else zero. -/
theorem hot_entry (x q : ℕ) (hx : x < 1000) (hq : q < 1000) :
    (FloatOps.sitofp FTy.f32 (BitVec.setWidth 32 (IntOp.cmpi CmpIPredicate.eq (BitVec.ofNat 32 x) (BitVec.ofNat 32 q))) :
      Ideal FTy.f32) = if x = q then 1 else 0 := by
  have e : BitVec.ofNat 32 x = BitVec.ofNat 32 q ↔ x = q := by
    constructor
    · intro h
      have := congrArg BitVec.toNat h
      simp only [BitVec.toNat_ofNat] at this
      omega
    · rintro rfl; rfl
  by_cases h : x = q
  · subst h
    rw [if_pos rfl]
    show (((BitVec.setWidth 32 (IntOp.cmpi CmpIPredicate.eq (BitVec.ofNat 32 x) (BitVec.ofNat 32 x))).toInt : ℝ) : EReal) = 1
    simp [IntOp.cmpi]
  · rw [if_neg h]
    show (((BitVec.setWidth 32 (IntOp.cmpi CmpIPredicate.eq (BitVec.ofNat 32 x) (BitVec.ofNat 32 q))).toInt : ℝ) : EReal) = 0
    have hb : (BitVec.ofNat 32 x == BitVec.ofNat 32 q) = false := by simpa using fun h' => h (e.mp h')
    simp [IntOp.cmpi, hb]

/-- A sum of products with a one-hot column is the one entry in the wanted row, whatever the other entries hold. -/
theorem hot_sum (f : Fin 1000 → EReal) (q : ℕ) (hq : q < 1000) :
    ∑ x : Fin 1000, f x * (FloatOps.sitofp FTy.f32 (BitVec.setWidth 32
      (IntOp.cmpi CmpIPredicate.eq (BitVec.ofNat 32 (x : ℕ)) (BitVec.ofNat 32 q))) : Ideal FTy.f32) = f ⟨q, hq⟩ := by
  rw [Finset.sum_eq_single ⟨q, hq⟩]
  · rw [hot_entry _ _ hq hq, if_pos rfl]; exact mul_one _
  · intro x _ hx
    rw [hot_entry _ _ x.isLt hq, if_neg fun h => hx (Fin.ext h)]; exact mul_zero _
  · exact fun h => absurd (Finset.mem_univ _) h

/-- The first product: entry `(k, j)` is entry `k` of the first table's row for token `j`. -/
theorem first_lookup (ids : Vec Ideal S1x1x6400 .i32) (T : Vec Ideal S1000x192 .bf16) (k : Fin 192) (j : Fin 6400)
    (hj : (ids (ix3 0 0 j)).toNat < 1000000) :
    k0_pay3 ids T (ix2 k j) = T (ix2 ⟨(ids (ix3 0 0 j)).toNat / 1000, by omega⟩ k) := by
  pointwise [k0_pay3]
  rw [first_word ids j hj]
  exact hot_sum (fun x => T (ix2 x k)) _ (by omega)

/-- The second product: entry `(k, j)` is entry `k` of the second table's row for token `j`. -/
theorem second_lookup (ids : Vec Ideal S1x1x6400 .i32) (T : Vec Ideal S1000x176 .bf16) (k : Fin 176) (j : Fin 6400)
    (hj : (ids (ix3 0 0 j)).toNat < 1000000) :
    k0_pay4 ids T (ix2 k j) = T (ix2 ⟨(ids (ix3 0 0 j)).toNat % 1000, Nat.mod_lt _ (by norm_num)⟩ k) := by
  pointwise [k0_pay4, k0_pay1]
  rw [first_word ids j hj]
  have e : IntOp.subi (ids (ix3 0 0 j)) (IntOp.muli (BitVec.ofNat 32 ((ids (ix3 0 0 j)).toNat / 1000)) 1000#32)
      = BitVec.ofNat 32 ((ids (ix3 0 0 j)).toNat % 1000) := rem_word _
  rw [e]
  exact hot_sum (fun x => T (ix2 x k)) _ (Nat.mod_lt _ (by norm_num))

end Cert.TT

end
-- ==== Proof.Row.lean ====
/-
  One output row of a block.

  For output column `d = 11 * d1 + d2` the kernel multiplies rows `16 * d1 … 16 * d1 + 15` of the first fetched table by the
  cosines, splits the product and rows `16 * d2 … 16 * d2 + 15` of the second fetched table into halves of eight, multiplies
  half by half, adds the halves and sums the eight rows.  This file names that row once, for any offsets, and reads it as one
  sum over the sixteen ranks.
-/
module

public import proofs.«01_k».proof.Proof.Gen.KernelIdeal.Frame
public import Idealize.ShloMosaic.Lib.Pointwise

@[expose] public section

set_option maxRecDepth 16384

noncomputable section

namespace Cert.TT

open Idealize.ShloMosaic Cert.KernelIdeal Cert.KernelIdeal.Gen Cert.KernelIdeal.Facts

variable {F : FTy → Type} [FloatOps F]

/-- The row the kernel computes from the fetched tables `A`, `B` and the cosines `C`, at the row offsets `a` and `b`. -/
def row (A : FVec F S192x6400 .f32) (B : FVec F S176x6400 .f32) (C : FVec F S16x1 .f32) (a b : ℕ)
    (ha : S192x6400.Slices ![a, 0] S16x6400) (hb : S176x6400.Slices ![b, 0] S16x6400) : FVec F S1x6400 .f32 :=
  shapeCast S1x6400 (multiReduction .add [0] S6400
    (addf
      (mulf (extractStridedSlice S8x6400 ![0, 0]
          (mulf (extractStridedSlice S16x6400 ![a, 0] A ha) (broadcastTo S16x6400 C broadcasts_S16x1_S16x6400))
          slices_S16x6400_o0_0_S8x6400)
        (extractStridedSlice S8x6400 ![0, 0] (extractStridedSlice S16x6400 ![b, 0] B hb) slices_S16x6400_o0_0_S8x6400))
      (mulf (extractStridedSlice S8x6400 ![8, 0]
          (mulf (extractStridedSlice S16x6400 ![a, 0] A ha) (broadcastTo S16x6400 C broadcasts_S16x1_S16x6400))
          slices_S16x6400_o8_0_S8x6400)
        (extractStridedSlice S8x6400 ![8, 0] (extractStridedSlice S16x6400 ![b, 0] B hb) slices_S16x6400_o8_0_S8x6400)))
    0x00000000#32 reduces_S8x6400_S6400 (.inl rfl) rfl) shapeCasts_S6400_S1x6400

/-- Entry `j` of a row is the sum over the sixteen ranks of first-table entry, cosine and second-table entry multiplied. -/
theorem row_apply (A : FVec Ideal S192x6400 .f32) (B : FVec Ideal S176x6400 .f32) (C : FVec Ideal S16x1 .f32) (a b : ℕ)
    (ha : S192x6400.Slices ![a, 0] S16x6400) (hb : S176x6400.Slices ![b, 0] S16x6400) (ha' : a ≤ 176) (hb' : b ≤ 160)
    (j : Fin 6400) :
    row A B C a b ha hb (ix2 0 j)
      = ∑ r : Fin 16, A (ix2 ⟨a + r, by omega⟩ j) * C (ix2 r 0) * B (ix2 ⟨b + r, by omega⟩ j) := by
  pointwise [row]
  rw [Finset.sum_add_distrib]
  exact (Fin.sum_univ_add (a := 8) (b := 8) fun r : Fin (8 + 8) =>
    A (ix2 ⟨a + r, by omega⟩ j) * C (ix2 r 0) * B (ix2 ⟨b + r, by omega⟩ j)).symm

end Cert.TT

end
-- ==== Proof.Block.lean ====
/-
  What the kernel leaves in one block of the output.

  A block holds 128 batch rows of 50 tokens, 128 output columns each.  The kernel lays its 128 rows (one per output column)
  under one another, transposes, and splits the tokens into 128 times 50.  So entry `(b, l, d)` of the block is entry
  `50 * b + l` of row `d`.
-/
module

public import proofs.«01_k».proof.Proof.Lookup
public import proofs.«01_k».proof.Proof.Row
public import Idealize.ShloMosaic.Lib.Pipeline.Value

@[expose] public section

set_option maxRecDepth 16384

noncomputable section

namespace Cert.TT

open Idealize.ShloMosaic Cert.KernelIdeal Cert.KernelIdeal.Gen Cert.KernelIdeal.Facts

variable {F : FTy → Type} [FloatOps F]

/-- A slice of sixteen rows of the first fetched table stays inside it. -/
theorem slices_first (n : Fin 128) : S192x6400.Slices ![16 * (n.val / 11), 0] S16x6400 :=
  (by decide +kernel : ∀ n : Fin 128, S192x6400.Slices ![16 * (n.val / 11), 0] S16x6400) n

/-- A slice of sixteen rows of the second fetched table stays inside it. -/
theorem slices_second (n : Fin 128) : S176x6400.Slices ![16 * (n.val % 11), 0] S16x6400 :=
  (by decide +kernel : ∀ n : Fin 128, S176x6400.Slices ![16 * (n.val % 11), 0] S16x6400) n

/-- The row of output column `n`: it reads rank rows of the factors `n / 11` and `n % 11`. -/
def column (A : FVec F S192x6400 .f32) (B : FVec F S176x6400 .f32) (C : FVec F S16x1 .f32) (n : Fin 128) :
    FVec F S1x6400 .f32 :=
  row A B C (16 * (n.val / 11)) (16 * (n.val % 11)) (slices_first n) (slices_second n)

/-- The 128 rows under one another, transposed and split by batch row. -/
def stacked (A : FVec F S192x6400 .f32) (B : FVec F S176x6400 .f32) (C : FVec F S16x1 .f32)
    (h : Shape.Concatenates ((List.ofFn fun n : Fin 128 =>
      (⟨S1x6400, column A B C n⟩ : (s : Shape) × (s.Idx → F .f32))).map (·.1)) S128x6400 0) : FVec F S128x50x128 .f32 :=
  shapeCast S128x50x128 (transpose S6400x128 [1, 0] (concatenate S128x6400 0
    (List.ofFn fun n : Fin 128 => (⟨S1x6400, column A B C n⟩ : (s : Shape) × (s.Idx → F .f32))) h)
    transposes_S128x6400_p1_0_S6400x128) shapeCasts_S6400x128_S128x50x128

/-- The 128 one-row pieces fill the 128 rows. -/
theorem concatenates_columns (A : FVec F S192x6400 .f32) (B : FVec F S176x6400 .f32) (C : FVec F S16x1 .f32) :
    Shape.Concatenates ((List.ofFn fun n : Fin 128 =>
      (⟨S1x6400, column A B C n⟩ : (s : Shape) × (s.Idx → F .f32))).map (·.1)) S128x6400 0 := by
  rw [List.map_ofFn]
  exact (by decide +kernel : Shape.Concatenates (List.ofFn fun _ : Fin 128 => S1x6400) S128x6400 0)

/-- The body stores the stacked rows of the two fetched tables and the cosines. -/
theorem out_eq (x0 : Vec F S1x1x6400 .i32) (x1 : Vec F S1000x192 .bf16) (x2 : Vec F S1000x176 .bf16)
    (x3 : Vec F S16x1 .f32) :
    out0_4 x0 x1 x2 x3 = stacked (k0_pay3 x0 x1) (k0_pay4 x0 x2) (k0_pay5 x3) (concatenates_columns _ _ _) := by
  have e3 : (![0, 0, 0] : Fin 3 → ℕ) = fun _ => 0 := by decide
  have e2 : (![0, 0] : Fin 2 → ℕ) = fun _ => 0 := by decide
  have l0 : View.ld x0 r0_0 = x0 := View.ld_unit_zero e3 _ _
  have l1 : View.ld x1 r0_1 = x1 := View.ld_unit_zero e2 _ _
  have l2 : View.ld x2 r0_2 = x2 := View.ld_unit_zero e2 _ _
  have l3 : View.ld x3 r0_3 = x3 := View.ld_unit_zero e2 _ _
  unfold_out out0_4
  rw [l0, l1, l2, l3]
  refine (View.canon_unit_zero (S := S128x50x128) e3 inb_S128x50x128_S128x50x128_0_0_0 _).trans ?_
  unfold stacked
  unfold k0_pay190
  refine congrArg (fun z => shapeCast S128x50x128 (transpose S6400x128 [1, 0] z
    transposes_S128x6400_p1_0_S6400x128) shapeCasts_S6400x128_S128x50x128) ?_
  refine StableHlo.concatenate_congr _ _ ?_ _ _
  rfl

/-- Entry `(b, l, d)` of the stacked rows is entry `50 * b + l` of row `d`. -/
theorem stacked_apply (A : FVec F S192x6400 .f32) (B : FVec F S176x6400 .f32) (C : FVec F S16x1 .f32) (h)
    (b : Fin 128) (l : Fin 50) (d : Fin 128) :
    stacked A B C h (ix3 b l d) = column A B C d (ix2 0 ⟨b * 50 + l, by omega⟩) := by
  pointwise [stacked]

/-- Entry `(b, l, d)` of the block, over the ids, the two flattened tables and the phases of the launch: the sum over the
    sixteen ranks, for the token in batch row `b` and place `l`. -/
theorem block_apply (x0 : Vec Ideal S1x1x6400 .i32) (x1 : Vec Ideal S1000x192 .bf16) (x2 : Vec Ideal S1000x176 .bf16)
    (x3 : Vec Ideal S16x1 .f32) (b : Fin 128) (l : Fin 50) (d : Fin 128) (n : ℕ)
    (hn : (x0 (ix3 0 0 ⟨b * 50 + l, by omega⟩)).toNat = n) (hn' : n < 1000000) :
    out0_4 x0 x1 x2 x3 (ix3 b l d)
      = ∑ r : Fin 16, x1 (ix2 ⟨n / 1000, by omega⟩ ⟨16 * (d.val / 11) + r, by omega⟩) * Ideal.cos (x3 (ix2 r 0))
          * x2 (ix2 ⟨n % 1000, Nat.mod_lt _ (by norm_num)⟩ ⟨16 * (d.val % 11) + r, by omega⟩) := by
  subst hn
  rw [out_eq, stacked_apply, column, row_apply _ _ _ _ _ _ _ (by omega) (by omega)]
  refine Finset.sum_congr rfl fun r _ => ?_
  rw [first_lookup x0 x1 _ _ hn', second_lookup x0 x2 _ _ hn']
  congr 2
  pointwise [k0_pay5]

end Cert.TT

end
-- ==== Proof.Tables.lean ====
/-
  The arrays the kernel is launched on.

  Before the launch the host flattens each table so that a row holds, factor by factor, the sixteen rank entries of that
  factor; it splits the ids into 32 blocks of 6400 and makes the phases a column.  This file reads the four arrays element by
  element in terms of the function's arguments.
-/
module

public import proofs.«01_k».proof.Proof.Gen.KernelIdeal.Frame
public import Idealize.ShloMosaic.Lib.Pointwise

@[expose] public section

set_option maxRecDepth 16384

noncomputable section

namespace Cert.TT

open Idealize.ShloMosaic Idealize.ShloMosaic.TcCoe Cert.KernelIdeal Cert.KernelIdeal.Gen Cert.KernelIdeal.Facts Idealize.SL.Sem

/-- The first core with its rank and factor axes exchanged, one row per table row. -/
def flatFirst (x : FVec Ideal S1000x1x16x12 .f32) : FVec Ideal S1000x192 .bf16 :=
  truncf .bf16 (shapeCast S1000x192 (transpose S1000x12x16 [0, 2, 1]
    (shapeCast S1000x16x12 x shapeCasts_S1000x1x16x12_S1000x16x12)
    transposes_S1000x16x12_S1000x12x16_0_2_1) shapeCasts_S1000x12x16_S1000x192) bitsLt_bf16_f32

/-- The second core with its rank and factor axes exchanged, one row per table row. -/
def flatSecond (x : FVec Ideal S1000x16x1x11 .f32) : FVec Ideal S1000x176 .bf16 :=
  truncf .bf16 (shapeCast S1000x176 (transpose S1000x11x16 [0, 2, 1]
    (shapeCast S1000x16x11 x shapeCasts_S1000x16x1x11_S1000x16x11)
    transposes_S1000x16x11_S1000x11x16_0_2_1) shapeCasts_S1000x11x16_S1000x176) bitsLt_bf16_f32

/-- Entry `16 * d + r` of row `v` of the flattened first core is its rank `r`, factor `d`. -/
theorem flatFirst_apply (x : FVec Ideal S1000x1x16x12 .f32) (v : Fin 1000) (d : Fin 12) (r : Fin 16) :
    flatFirst x (ix2 v ⟨16 * d + r, by omega⟩) = x (ix4 v 0 r d) := by
  pointwise [flatFirst]

/-- Entry `16 * d + r` of row `v` of the flattened second core is its rank `r`, factor `d`. -/
theorem flatSecond_apply (x : FVec Ideal S1000x16x1x11 .f32) (v : Fin 1000) (d : Fin 11) (r : Fin 16) :
    flatSecond x (ix2 v ⟨16 * d + r, by omega⟩) = x (ix4 v r 0 d) := by
  pointwise [flatSecond]

/-- The ids in 32 blocks of 6400: place `j` of block `t` is batch row `128 * t + j / 50`, place `j % 50`. -/
theorem ids_blocks_apply (x : IVec S4096x50 32) (t : Fin 32) (b : Fin 128) (l : Fin 50) :
    shapeCast S32x1x6400 x shapeCasts_S4096x50_S32x1x6400 (ix3 t 0 ⟨b * 50 + l, by omega⟩)
      = x (ix2 ⟨128 * t + b, by omega⟩ l) := by
  pointwise []
  congr 3
  omega

/-- The phases as a column. -/
theorem phase_column_apply (x : FVec Ideal S16 .f32) (r : Fin 16) :
    shapeCast S16x1 x shapeCasts_S16_S16x1 (ix2 r 0) = x (ix1 r) := by
  pointwise []

variable (m : (ℓ : Loc nD τ sig) → Buf (Elt Ideal) ℓ) (c : Dev nD)

/-- The first table as the kernel finds it. -/
theorem V_first : V m c main_v3 = flatFirst (m ((c : Thread nD τ).loc main_arg1)) := by
  dsimp only [V, hostOps0]; after_results; rfl

/-- The second table as the kernel finds it. -/
theorem V_second : V m c main_v7 = flatSecond (m ((c : Thread nD τ).loc main_arg2)) := by
  dsimp only [V, hostOps0]; after_results; rfl

/-- The phases as the kernel finds them. -/
theorem V_phase : V m c main_v8 = shapeCast S16x1 (m ((c : Thread nD τ).loc main_arg3)) shapeCasts_S16_S16x1 := by
  dsimp only [V, hostOps0]; after_results; rfl

/-- The ids as the kernel finds them. -/
theorem V_ids : V m c main_v9 = shapeCast S32x1x6400 (m ((c : Thread nD τ).loc main_arg0)) shapeCasts_S4096x50_S32x1x6400 := by
  dsimp only [V, hostOps0]; after_results; rfl

end Cert.TT

end
-- ==== Proof.Spec.lean ====
/-
  What the embedding lookup is.

  A token id `n` names row `n / 1000` of the first core and row `n % 1000` of the second.  Output column `d` takes factor
  `d / 11` of the first row and factor `d % 11` of the second, and sums over the sixteen ranks the first entry, the cosine of
  the rank's phase and the second entry multiplied together.
-/
module

public import Idealize.ShloMosaic.Lib.Pointwise

@[expose] public section

noncomputable section

namespace Cert.TT

open Idealize.ShloMosaic

/-- The ids, one per batch row and place. -/
abbrev Ids : Type := IVec (⟨2, ![4096, 50]⟩ : Shape) 32
/-- The first core: a row holds sixteen ranks of twelve factors. -/
abbrev FirstCore : Type := FVec Ideal (⟨4, ![1000, 1, 16, 12]⟩ : Shape) .f32
/-- The second core: a row holds sixteen ranks of eleven factors. -/
abbrev SecondCore : Type := FVec Ideal (⟨4, ![1000, 16, 1, 11]⟩ : Shape) .f32
/-- The phases, one per rank. -/
abbrev Phases : Type := FVec Ideal (⟨1, ![16]⟩ : Shape) .f32

/-- The first core's row of an id (reduced below 1000, which changes no id below a million). -/
def firstRow (n : ℕ) : Fin 1000 := ⟨n / 1000 % 1000, Nat.mod_lt _ (by norm_num)⟩

/-- The second core's row of an id. -/
def secondRow (n : ℕ) : Fin 1000 := ⟨n % 1000, Nat.mod_lt _ (by norm_num)⟩

/-- The row of an id below a million is the id over 1000. -/
theorem firstRow_eq (n : ℕ) (hn : n < 1000000) : firstRow n = ⟨n / 1000, by omega⟩ :=
  Fin.ext (by show n / 1000 % 1000 = n / 1000; omega)

/-- Column `d` of the embedding of the id in batch row `b`, place `l`. -/
def entry (ids : Ids) (g : FirstCore) (h : SecondCore) (p : Phases) (b : Fin 4096) (l : Fin 50) (d : Fin 128) : EReal :=
  ∑ r : Fin 16, g (ix4 (firstRow (ids (ix2 b l)).toNat) 0 r ⟨d / 11, by omega⟩) * Ideal.cos (p (ix1 r))
    * h (ix4 (secondRow (ids (ix2 b l)).toNat) r 0 ⟨d % 11, Nat.mod_lt _ (by norm_num)⟩)

/-- The whole lookup. -/
def embedding (ids : Ids) (g : FirstCore) (h : SecondCore) (p : Phases) : FVec Ideal (⟨3, ![4096, 50, 128]⟩ : Shape) .f32 :=
  fun i => entry ids g h p (i 0) (i 1) (i 2)

/-- Every id names a row of the table. -/
def InVocab (ids : Ids) : Prop := ∀ (b : Fin 4096) (l : Fin 50), (ids (ix2 b l)).toNat < 1000000

end Cert.TT

end
-- ==== Proof.Array.lean ====
/-
  The kernel's output array.

  Grid point `t` writes batch rows `128 * t … 128 * t + 127` of the output.  Its ids are block `t` of the ids and its tables and
  phases are whole.  The 32 blocks fill the output, so after the run the array is the embedding lookup of the arguments.
-/
module

public import proofs.«01_k».proof.Proof.Block
public import proofs.«01_k».proof.Proof.Tables
public import proofs.«01_k».proof.Proof.Spec
public import Idealize.ShloMosaic.Lib.Pipeline.ValueKit.Geometry

@[expose] public section

set_option maxRecDepth 16384

noncomputable section

namespace Cert.TT

open Idealize.ShloMosaic Idealize.ShloMosaic.TcCoe Cert.KernelIdeal Cert.KernelIdeal.Gen Cert.KernelIdeal.Facts Idealize.SL.Sem

variable (m : (ℓ : Loc nD τ sig) → Buf (Elt Ideal) ℓ) (c : Dev nD)

/-- Where the windows stand at a grid point: the ids and the output move along their first axis, the tables and the phases
    stay. -/
theorem window_places : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N, _)

/-- A grid point as a number below 32. -/
theorem point_lt (t : Fin cfg0.N) : t.val < 32 := t.isLt

/-- The ids block at point `t` is block `t` of the ids. -/
theorem ids_block (t : Fin cfg0.N) (j : Fin 6400) :
    iblk m c 0 t (ix3 0 0 j) = V m c main_v9 (ix3 ⟨t.val, point_lt t⟩ 0 j) := by
  obtain ⟨⟨e0, e1, e2⟩, _⟩ := window_places t
  show V m c main_v9 (((cfg0.win 0).blk t).view.emb (ix3 0 0 j)) = _
  congr 1
  funext a; apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 6400 + 1 * j.val = j.val; omega

/-- The first table is staged whole. -/
theorem first_block (t : Fin cfg0.N) : iblk m c 1 t = V m c main_v3 := by
  obtain ⟨_, ⟨e0, e1⟩, _⟩ := window_places t
  funext j
  show V m c main_v3 (((cfg0.win 1).blk t).view.emb j) = _
  congr 1
  funext a; apply Fin.ext
  match a with
  | ⟨0, _⟩ => show win0_1.index t (0 : Fin 2) * 1000 + 1 * (j 0).val = (j 0).val; omega
  | ⟨1, _⟩ => show win0_1.index t (1 : Fin 2) * 192 + 1 * (j 1).val = (j 1).val; omega

/-- The second table is staged whole. -/
theorem second_block (t : Fin cfg0.N) : iblk m c 2 t = V m c main_v7 := by
  obtain ⟨_, _, ⟨e0, e1⟩, _⟩ := window_places t
  funext j
  show V m c main_v7 (((cfg0.win 2).blk t).view.emb j) = _
  congr 1
  funext a; apply Fin.ext
  match a with
  | ⟨0, _⟩ => show win0_2.index t (0 : Fin 2) * 1000 + 1 * (j 0).val = (j 0).val; omega
  | ⟨1, _⟩ => show win0_2.index t (1 : Fin 2) * 176 + 1 * (j 1).val = (j 1).val; omega

/-- The phases are staged whole. -/
theorem phase_block (t : Fin cfg0.N) : iblk m c 3 t = V m c main_v8 := by
  obtain ⟨_, _, _, ⟨e0, e1⟩, _⟩ := window_places t
  funext j
  show V m c main_v8 (((cfg0.win 3).blk t).view.emb j) = _
  congr 1
  funext a; apply Fin.ext
  match a with
  | ⟨0, _⟩ => show win0_3.index t (0 : Fin 2) * 16 + 1 * (j 0).val = (j 0).val; omega
  | ⟨1, _⟩ => show win0_3.index t (1 : Fin 2) * 1 + 1 * (j 1).val = (j 1).val; omega

/-- Entry `(b, l, d)` of the output block of point `t` is entry `(128 * t + b, l, d)` of the output. -/
theorem out_place (t : Fin cfg0.N) (b : Fin 128) (l : Fin 50) (d : Fin 128) :
    ((cfg0.win 4).blk t).view.emb (ix3 b l d)
      = (ix3 ⟨128 * t.val + b, by have := point_lt t; omega⟩ l d : S4096x50x128.Idx) := by
  obtain ⟨_, _, _, _, ⟨e0, e1, e2⟩⟩ := window_places t
  funext a; apply Fin.ext
  match a with
  | ⟨0, _⟩ => show win0_4.index t (0 : Fin 3) * 128 + 1 * b.val = 128 * t.val + b.val; omega
  | ⟨1, _⟩ => show win0_4.index t (1 : Fin 3) * 50 + 1 * l.val = l.val; omega
  | ⟨2, _⟩ => show win0_4.index t (2 : Fin 3) * 128 + 1 * d.val = d.val; omega

/-- The body's result at point `t` is the lookup of batch rows `128 * t …`. -/
theorem point_apply (hv : InVocab (m ((c : Thread nD τ).loc main_arg0))) (t : Fin cfg0.N) (b : Fin 128) (l : Fin 50)
    (d : Fin 128) :
    out0_4 (iblk m c 0 t) (iblk m c 1 t) (iblk m c 2 t) (iblk m c 3 t) (ix3 b l d)
      = entry (m ((c : Thread nD τ).loc main_arg0)) (m ((c : Thread nD τ).loc main_arg1))
          (m ((c : Thread nD τ).loc main_arg2)) (m ((c : Thread nD τ).loc main_arg3))
          ⟨128 * t.val + b, by have := point_lt t; omega⟩ l d := by
  have ht := point_lt t
  have hid : iblk m c 0 t (ix3 0 0 ⟨b * 50 + l, by omega⟩)
      = m ((c : Thread nD τ).loc main_arg0) (ix2 ⟨128 * t.val + b, by omega⟩ l) := by
    rw [ids_block, V_ids]
    exact ids_blocks_apply _ ⟨t.val, ht⟩ b l
  have hn := hv ⟨128 * t.val + b, by omega⟩ l
  rw [block_apply _ _ _ _ b l d _ (congrArg BitVec.toNat hid) hn, entry]
  refine Finset.sum_congr rfl fun r _ => ?_
  rw [first_block, second_block, phase_block, V_first, V_second, V_phase, firstRow_eq _ hn]
  have h1 := flatFirst_apply (m ((c : Thread nD τ).loc main_arg1))
    ⟨(m ((c : Thread nD τ).loc main_arg0) (ix2 ⟨128 * t.val + b, by omega⟩ l)).toNat / 1000, by omega⟩ ⟨d / 11, by omega⟩ r
  have h2 := flatSecond_apply (m ((c : Thread nD τ).loc main_arg2))
    (secondRow (m ((c : Thread nD τ).loc main_arg0) (ix2 ⟨128 * t.val + b, by omega⟩ l)).toNat)
    ⟨d % 11, Nat.mod_lt _ (by norm_num)⟩ r
  have h3 := phase_column_apply (m ((c : Thread nD τ).loc main_arg3)) r
  rw [← h1, ← h2, ← h3]
  rfl

/-- What point `t` writes back is its block of the lookup. -/
theorem flushed_eq (hv : InVocab (m ((c : Thread nD τ).loc main_arg0))) (t : Fin cfg0.N) :
    (dats m 0 c).flushed 4 t = ((cfg0.win 4).blk t).view.read (Elt Ideal)
      (embedding (m ((c : Thread nD τ).loc main_arg0)) (m ((c : Thread nD τ).loc main_arg1))
          (m ((c : Thread nD τ).loc main_arg2)) (m ((c : Thread nD τ).loc main_arg3)) :
        Buf (Elt Ideal) ((c : Thread nD τ).loc main_v10)) := by
  have e : (dats m 0 c).flushed 4 t
      = (cfg0.win 4).cut (grid0.coords t) (out0_4 (iblk m c 0 t) (iblk m c 1 t) (iblk m c 2 t) (iblk m c 3 t)) := by
    show (cfg0.win 4).cut (grid0.coords t) ((dats m 0 c).after 4 t) = _
    rw [after0_4]
  rw [e]
  generalize ho : out0_4 (iblk m c 0 t) (iblk m c 1 t) (iblk m c 2 t) (iblk m c 3 t) = o
  funext y
  obtain ⟨b, l, d, rfl⟩ : ∃ (b : Fin 128) (l : Fin 50) (d : Fin 128), y = (ix3 b l d : S128x50x128.Idx) :=
    ⟨y 0, y 1, y 2, eq_ix3 (y : S128x50x128.Idx)⟩
  show o (ix3 b l d) = embedding _ _ _ _ (((cfg0.win 4).blk t).view.emb (ix3 b l d))
  rw [out_place, ← ho]
  exact point_apply m c hv t b l d

/-- The 32 blocks fill the output array. -/
theorem covered (i : S4096x50x128.Idx) :
    ∃ t : Fin cfg0.N, (cfg0.win 4).flush t = true ∧ i ∈ ((cfg0.win 4).blk t).view.set := by
  have h0 : (i 0).val < 4096 := (i 0).isLt
  let t : Fin cfg0.N := ⟨(i 0).val / 128, by show (i 0).val / 128 < 32; omega⟩
  have e : ((cfg0.win 4).blk t).view.emb
      (ix3 ⟨(i 0).val % 128, Nat.mod_lt _ (by norm_num)⟩ (i 1) (i 2) : S128x50x128.Idx) = i := by
    refine (out_place t ⟨(i 0).val % 128, Nat.mod_lt _ (by norm_num)⟩ (i 1) (i 2)).trans ?_
    conv_rhs => rw [eq_ix3 i]
    congr 1
    exact Fin.ext (Nat.div_add_mod _ _)
  exact ⟨t, flush0_4 t, e ▸ ((cfg0.win 4).blk t).view.emb_mem_set _⟩

/-- After the run the output array is the lookup of the arguments. -/
theorem array_eq (hv : InVocab (m ((c : Thread nD τ).loc main_arg0))) :
    (dats m 0 c).arrAt 4 cfg0.N
      = embedding (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c hv t) covered

end Cert.TT

end
-- ==== Proof.RefWord.lean ====
/-
  The reference's index words.

  The reference splits an id by the rounding-down division and the remainder of signed words, each spelled with a correction
  for operands of unlike sign, and clips both to the range of a table's rows.  For an id below 1000000 no correction applies
  and no clip binds: the words are the id over 1000 and the id modulo 1000.
-/
module

public import Idealize.ShloMosaic.PureOps

@[expose] public section

noncomputable section

namespace Cert.TT

open Idealize.ShloMosaic

/-- The sign of a signed word: 0, -1 or 1. -/
def signWord (b : BitVec 32) : BitVec 32 := if b = 0 then 0 else if b.msb then -1 else 1

/-- A word clipped to the row numbers of a table. -/
def clipWord (b : BitVec 32) : BitVec 32 := IntOp.minsi 999#32 (IntOp.maxsi 0#32 b)

/-- The reference's division by 1000 rounding down. -/
def floorDivWord (b : BitVec 32) : BitVec 32 :=
  Scalar.select
    (IntOp.andi (IntOp.cmpi .ne (signWord b) (signWord 1000#32)) (IntOp.cmpi .ne (IntOp.remsi .host b 1000#32) 0#32))
    (IntOp.subi (IntOp.divsi .host b 1000#32) 1#32) (IntOp.divsi .host b 1000#32)

/-- The divisor of the reference's remainder: 1000, or 1 in place of zero. -/
def divisorWord : BitVec 32 := Scalar.select (IntOp.cmpi .eq 1000#32 0#32) 1#32 1000#32

/-- The reference's remainder by 1000 with the divisor's sign. -/
def floorRemWord (b : BitVec 32) : BitVec 32 :=
  Scalar.select
    (IntOp.andi
      (IntOp.cmpi .ne (IntOp.cmpi .slt (IntOp.remsi .host b divisorWord) 0#32) (IntOp.cmpi .slt divisorWord 0#32))
      (IntOp.cmpi .ne (IntOp.remsi .host b divisorWord) 0#32))
    (IntOp.addi (IntOp.remsi .host b divisorWord) divisorWord) (IntOp.remsi .host b divisorWord)

/-- A row word with a negative one counted from the table's end, as an array index is read. -/
def wrapWord (w : BitVec 32) : BitVec 32 := Scalar.select (IntOp.cmpi .slt w 0#32) (IntOp.addi w 1000#32) w

/-- The test that a row word lies in the table. -/
def insideBit (w : BitVec 32) : BitVec 1 := IntOp.andi (IntOp.cmpi .sge w 0#32) (IntOp.cmpi .sle w 999#32)

/-- The sign bit of a word below a million is clear. -/
theorem msb_small (b : BitVec 32) (hb : b.toNat < 1000000) : b.msb = false := by
  rw [BitVec.msb_eq_decide, decide_eq_false_iff_not]; omega

/-- The signed value of a small number's word is the number. -/
theorem toInt_ofNat_small (n : ℕ) (hn : n < 1000000) : (BitVec.ofNat 32 n).toInt = (n : ℤ) := by
  rw [BitVec.toInt_eq_toNat_cond, BitVec.toNat_ofNat]; split <;> omega

/-- The signed quotient of a word below a million by 1000. -/
theorem divsi_small (b : BitVec 32) (hb : b.toNat < 1000000) :
    IntOp.divsi .host b 1000#32 = BitVec.ofNat 32 (b.toNat / 1000) := by
  have h : ¬ IntOp.SDivCorner b 1000#32 := by
    rintro (h | ⟨_, h⟩) <;> exact absurd h (by decide)
  rw [IntOp.divsi, if_neg h, BitVec.sdiv_eq, msb_small b hb, show (1000#32).msb = false from by decide]
  apply BitVec.eq_of_toNat_eq
  simp only [BitVec.udiv_eq, BitVec.toNat_udiv, BitVec.toNat_ofNat, Nat.reducePow, Nat.reduceMod]
  omega

/-- The signed remainder of a word below a million by 1000. -/
theorem remsi_small (b : BitVec 32) (hb : b.toNat < 1000000) :
    IntOp.remsi .host b 1000#32 = BitVec.ofNat 32 (b.toNat % 1000) := by
  have h : ¬ IntOp.SDivCorner b 1000#32 := by
    rintro (h | ⟨_, h⟩) <;> exact absurd h (by decide)
  rw [IntOp.remsi, if_neg h, BitVec.srem_eq, msb_small b hb, show (1000#32).msb = false from by decide]
  apply BitVec.eq_of_toNat_eq
  simp only [BitVec.umod_eq, BitVec.toNat_umod, BitVec.toNat_ofNat, Nat.reducePow, Nat.reduceMod]
  omega

/-- A row number is not negative. -/
theorem slt_zero_row (n : ℕ) (hn : n < 1000) : (BitVec.ofNat 32 n).slt 0#32 = false := by
  rw [BitVec.slt_eq_decide, toInt_ofNat_small n (by omega), decide_eq_false_iff_not, BitVec.toInt_zero]; omega

/-- A row number stays as it is under the clip. -/
theorem clip_row (n : ℕ) (hn : n < 1000) : clipWord (BitVec.ofNat 32 n) = BitVec.ofNat 32 n := by
  have h : IntOp.maxsi 0#32 (BitVec.ofNat 32 n) = BitVec.ofNat 32 n := by
    rw [IntOp.maxsi, slt_zero_row n hn]; rfl
  rw [clipWord, h, IntOp.minsi, if_neg]
  rw [BitVec.slt_eq_decide, toInt_ofNat_small n (by omega), decide_eq_true_iff, show (999#32).toInt = 999 from by decide]
  omega

/-- A row number counts from the table's start. -/
theorem wrap_row (n : ℕ) (hn : n < 1000) : wrapWord (BitVec.ofNat 32 n) = BitVec.ofNat 32 n := by
  rw [wrapWord, IntOp.cmpi, slt_zero_row n hn]; rfl

/-- A row number passes the test. -/
theorem inside_row (n : ℕ) (hn : n < 1000) : insideBit (BitVec.ofNat 32 n) = 1#1 := by
  have h0 : (0#32).sle (BitVec.ofNat 32 n) = true := by
    rw [BitVec.sle_eq_decide, toInt_ofNat_small n (by omega), decide_eq_true_iff, BitVec.toInt_zero]; omega
  have h1 : (BitVec.ofNat 32 n).sle 999#32 = true := by
    rw [BitVec.sle_eq_decide, toInt_ofNat_small n (by omega), decide_eq_true_iff, show (999#32).toInt = 999 from by decide]
    omega
  rw [insideBit, IntOp.cmpi, IntOp.cmpi, h0, h1]; rfl

/-- The reference's first row word of an id below a million is the id over 1000. -/
theorem first_row_word (b : BitVec 32) (hb : b.toNat < 1000000) :
    clipWord (floorDivWord b) = BitVec.ofNat 32 (b.toNat / 1000) := by
  have h : floorDivWord b = BitVec.ofNat 32 (b.toNat / 1000) := by
    rw [floorDivWord, divsi_small b hb, remsi_small b hb]
    by_cases h0 : b = 0
    · subst h0; decide
    · have hs : IntOp.cmpi .ne (signWord b) (signWord 1000#32) = 0#1 := by
        rw [signWord, if_neg h0, msb_small b hb]; decide
      rw [hs, IntOp.andi, BitVec.zero_and]; rfl
  rw [h, clip_row _ (by omega)]

/-- The reference's second row word of an id below a million is the id modulo 1000. -/
theorem second_row_word (b : BitVec 32) (hb : b.toNat < 1000000) :
    clipWord (floorRemWord b) = BitVec.ofNat 32 (b.toNat % 1000) := by
  have h : floorRemWord b = BitVec.ofNat 32 (b.toNat % 1000) := by
    have hs : IntOp.cmpi .ne (IntOp.cmpi .slt (BitVec.ofNat 32 (b.toNat % 1000)) 0#32)
        (IntOp.cmpi .slt 1000#32 0#32) = 0#1 := by
      rw [IntOp.cmpi.eq_def .slt (BitVec.ofNat 32 (b.toNat % 1000))]
      simp only
      rw [slt_zero_row _ (by omega)]; decide
    rw [floorRemWord, show divisorWord = 1000#32 from by decide, remsi_small b hb, hs, IntOp.andi, BitVec.zero_and]; rfl
  rw [h, clip_row _ (by omega)]

end Cert.TT

end
-- ==== Proof.Gather.lean ====
/-
  Fetching rows of a table by an array of row words.

  The reference looks its two tables up with one gather each: from a table of one thousand rows, entry `(b, l)` of the word
  array names the row that result `(b, l)` receives whole.  The two tables differ in the length of their last axis only.
-/
module

public import Idealize.ShloMosaic.Lib.Pointwise

@[expose] public section

noncomputable section

namespace Cert.TT

open Idealize.ShloMosaic

/-- The dimension numbers of that gather for a table whose rows are `16` by `C`. -/
abbrev rowDims (C : Nat)
    (wf : GatherDims.WF ⟨3, ![1000, 16, C]⟩ ⟨3, ![4096, 50, 1]⟩ ⟨4, ![4096, 50, 16, C]⟩ [2, 3] [0] [] [0] [] 2 ![1, 16, C]) :
    GatherDims ⟨3, ![1000, 16, C]⟩ ⟨3, ![4096, 50, 1]⟩ ⟨4, ![4096, 50, 16, C]⟩ where
  offsetDims := [2, 3]
  collapsedSliceDims := [0]
  operandBatchingDims := []
  startIndicesBatchingDims := []
  startIndexMap := [0]
  indexVectorDim := 2
  sliceSizes := ![1, 16, C]
  wf := wf

/-- Element `(b, l, r, e)` of the result is element `(r, e)` of the row that word `(b, l)` names, the word read signed and
    clamped into the table. -/
theorem gather_row {α : Type} {C : Nat}
    (wf : GatherDims.WF ⟨3, ![1000, 16, C]⟩ ⟨3, ![4096, 50, 1]⟩ ⟨4, ![4096, 50, 16, C]⟩ [2, 3] [0] [] [0] [] 2 ![1, 16, C])
    (x : (⟨3, ![1000, 16, C]⟩ : Shape).Idx → α) (idx : IVec ⟨3, ![4096, 50, 1]⟩ 32)
    (b : Fin 4096) (l : Fin 50) (r : Fin 16) (e : Fin C) :
    Host.gather (rowDims C wf) x idx (ix4 b l r e)
      = x (ix3 ⟨min (idx (ix3 b l 0)).toInt.toNat 999, by omega⟩ r e) := by
  unfold Host.gather
  congr 1
  funext a
  refine Fin.ext ?_
  show (rowDims C wf).start (ix4 b l r e) idx a + (rowDims C wf).batchCoord (ix4 b l r e) a
      + (rowDims C wf).offCoord (ix4 b l r e) a = _
  rw [GatherDims.batchCoord_eq_zero _ _ _ List.not_mem_nil, Nat.add_zero]
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 3) ∈ (rowDims C wf).startIndexMap from List.mem_singleton.mpr rfl)]
    have hs : (rowDims C wf).siIdx (ix4 b l r e) ⟨List.idxOf (0 : Fin 3) (rowDims C wf).startIndexMap,
        List.idxOf_lt_length_iff.2 (List.mem_singleton.mpr rfl)⟩ = ix3 b l 0 := by
      funext q; refine Fin.ext ?_
      match q with
      | ⟨0, _⟩ => rfl
      | ⟨1, _⟩ => rfl
      | ⟨2, _⟩ => rfl
    rw [hs]
    rfl
  · unfold GatherDims.start GatherDims.offCoord
    rw [dif_neg (show ¬ (1 : Fin 3) ∈ ([0] : List (Fin 3)) by decide), Nat.zero_add]
    rfl
  · unfold GatherDims.start GatherDims.offCoord
    rw [dif_neg (show ¬ (2 : Fin 3) ∈ ([0] : List (Fin 3)) by decide), Nat.zero_add]
    rfl

end Cert.TT

end
-- ==== Proof.Reference.lean ====
/-
  What the reference computes.

  Its two row words are read off the id, each gather then fetches the named row (the test for a row outside the table holds
  back nothing), and the product with the cosines, summed over the ranks, is the embedding.
-/
module

public import proofs.«01_k».proof.Proof.Gen.ReferenceIdeal.Read
public import proofs.«01_k».proof.Proof.RefWord
public import proofs.«01_k».proof.Proof.Gather
public import proofs.«01_k».proof.Proof.Spec
public import Idealize.ShloMosaic.Lib.ReduceAll

@[expose] public section

set_option maxRecDepth 16384

noncomputable section

namespace Cert.TT

open Idealize.ShloMosaic Cert.ReferenceIdeal Cert.ReferenceIdeal.Gen Cert.ReferenceIdeal.Read

/-- The word the first gather reads for an id: the id over 1000 rounded down, clipped, and counted as an array index. -/
theorem first_start (ids : Ids) (b : Fin 4096) (l : Fin 50) :
    val_main_call4_v5 (F := Ideal) ids (ix3 b l 0) = wrapWord (clipWord (floorDivWord (ids (ix2 b l)))) := by
  rw [val_main_call4_v5_apply]
  have e : idx_main_call4_v5 (ix3 b l 0) = (ix2 b l : S4096x50.Idx) := by
    funext a; match a with | ⟨0, _⟩ => rfl | ⟨1, _⟩ => rfl
  rw [e]
  rfl

/-- The word the second gather reads for an id: the id modulo 1000, clipped, and counted as an array index. -/
theorem second_start (ids : Ids) (b : Fin 4096) (l : Fin 50) :
    val_main_call5_v5 (F := Ideal) ids (ix3 b l 0) = wrapWord (clipWord (floorRemWord (ids (ix2 b l)))) := by
  rw [val_main_call5_v5_apply]
  have e : idx_main_call5_v5 (ix3 b l 0) = (ix2 b l : S4096x50.Idx) := by
    funext a; match a with | ⟨0, _⟩ => rfl | ⟨1, _⟩ => rfl
  rw [e]
  rfl

/-- On ids in the vocabulary the first gather's word is the row number of the first core. -/
theorem first_start_eq (ids : Ids) (hv : InVocab ids) (b : Fin 4096) (l : Fin 50) :
    val_main_call4_v5 (F := Ideal) ids (ix3 b l 0) = BitVec.ofNat 32 ((ids (ix2 b l)).toNat / 1000) := by
  have h := hv b l
  rw [first_start, first_row_word _ h, wrap_row _ (by omega)]

/-- On ids in the vocabulary the second gather's word is the row number of the second core. -/
theorem second_start_eq (ids : Ids) (hv : InVocab ids) (b : Fin 4096) (l : Fin 50) :
    val_main_call5_v5 (F := Ideal) ids (ix3 b l 0) = BitVec.ofNat 32 ((ids (ix2 b l)).toNat % 1000) := by
  have h := hv b l
  rw [second_start, second_row_word _ h, wrap_row _ (by omega)]

/-- Every index of the word arrays has a last coordinate of zero. -/
theorem word_index (i : S4096x50x1.Idx) : i = ix3 (i 0) (i 1) 0 := by
  funext a
  match a with
  | ⟨0, _⟩ => rfl
  | ⟨1, _⟩ => rfl
  | ⟨2, _⟩ => exact Subsingleton.elim (α := Fin 1) _ _

/-- On ids in the vocabulary the first gather's words all pass the range test. -/
theorem first_inside (ids : Ids) (hv : InVocab ids) (j : S4096x50.Idx) :
    val_main_call4_v12 (F := Ideal) ids j = 1#1 := by
  refine Host.reduce_andi_one _ _ _ _ j rfl fun i => ?_
  rw [word_index i]
  have h := hv (i 0) (i 1)
  have e : val_main_call4_v11 (F := Ideal) ids (ix3 (i 0) (i 1) 0)
      = insideBit (val_main_call4_v5 (F := Ideal) ids (ix3 (i 0) (i 1) 0)) := rfl
  exact e.trans ((congrArg insideBit (first_start_eq ids hv _ _)).trans (inside_row _ (by omega)))

/-- On ids in the vocabulary the second gather's words all pass the range test. -/
theorem second_inside (ids : Ids) (hv : InVocab ids) (j : S4096x50.Idx) :
    val_main_call5_v12 (F := Ideal) ids j = 1#1 := by
  refine Host.reduce_andi_one _ _ _ _ j rfl fun i => ?_
  rw [word_index i]
  have e : val_main_call5_v11 (F := Ideal) ids (ix3 (i 0) (i 1) 0)
      = insideBit (val_main_call5_v5 (F := Ideal) ids (ix3 (i 0) (i 1) 0)) := rfl
  exact e.trans ((congrArg insideBit (second_start_eq ids hv _ _)).trans (inside_row _ (Nat.mod_lt _ (by norm_num))))

/-- A small number's word, read signed and clamped into the table, is the number. -/
theorem clamp_row (n : ℕ) (hn : n < 1000) : min (BitVec.ofNat 32 n).toInt.toNat 999 = n := by
  rw [toInt_ofNat_small n (by omega), Int.toNat_natCast]; omega

/-- The first core without its axis of length one. -/
theorem first_table (g : FirstCore) (n : Fin 1000) (r : Fin 16) (e : Fin 12) :
    val_main_v4 (F := Ideal) g (ix3 n r e) = g (ix4 n 0 r e) := by
  pointwise [val_main_v4]

/-- The second core without its axis of length one. -/
theorem second_table (h : SecondCore) (n : Fin 1000) (r : Fin 16) (e : Fin 11) :
    val_main_v6 (F := Ideal) h (ix3 n r e) = h (ix4 n r 0 e) := by
  pointwise [val_main_v6]

/-- The first gather with its row words read. -/
theorem first_gather (ids : Ids) (g : FirstCore) (hv : InVocab ids) (b : Fin 4096) (l : Fin 50) (r : Fin 16) (e : Fin 12) :
    val_main_call4_v13 (F := Ideal) ids g (ix4 b l r e)
      = val_main_v4 (F := Ideal) g (ix3 (firstRow (ids (ix2 b l)).toNat) r e) := by
  have h := hv b l
  have hw := clamp_row ((ids (ix2 b l)).toNat / 1000) (by omega)
  rw [← first_start_eq ids hv b l] at hw
  unfold val_main_call4_v13
  generalize val_main_v4 (F := Ideal) g = y
  generalize val_main_call4_v5 (F := Ideal) ids = w at hw ⊢
  have hg := gather_row gather_S1000x16x12_S4096x50x1_S4096x50x16x12_23_0_n_n_0_2_11612_wf y w b l r e
  rw [firstRow_eq _ h]
  simp only [hw] at hg
  exact hg

/-- The second gather with its row words read. -/
theorem second_gather (ids : Ids) (h : SecondCore) (hv : InVocab ids) (b : Fin 4096) (l : Fin 50) (r : Fin 16) (e : Fin 11) :
    val_main_call5_v13 (F := Ideal) ids h (ix4 b l r e)
      = val_main_v6 (F := Ideal) h (ix3 (secondRow (ids (ix2 b l)).toNat) r e) := by
  have hw := clamp_row ((ids (ix2 b l)).toNat % 1000) (Nat.mod_lt _ (by norm_num))
  rw [← second_start_eq ids hv b l] at hw
  unfold val_main_call5_v13
  generalize val_main_v6 (F := Ideal) h = y
  generalize val_main_call5_v5 (F := Ideal) ids = w at hw ⊢
  have hg := gather_row gather_S1000x16x11_S4096x50x1_S4096x50x16x11_23_0_n_n_0_2_11611_wf y w b l r e
  rw [secondRow]
  simp only [hw] at hg
  exact hg

/-- The rows fetched from the first core. -/
theorem first_fetch (ids : Ids) (g : FirstCore) (hv : InVocab ids) (b : Fin 4096) (l : Fin 50) (r : Fin 16) (e : Fin 12) :
    val_main_v5 (F := Ideal) ids g (ix4 b l r e) = g (ix4 (firstRow (ids (ix2 b l)).toNat) 0 r e) := by
  rw [val_main_v5_apply, val_main_call4_v14_apply, first_inside ids hv, ValueIdx.select_one, first_gather ids g hv,
    first_table]

/-- The rows fetched from the second core. -/
theorem second_fetch (ids : Ids) (h : SecondCore) (hv : InVocab ids) (b : Fin 4096) (l : Fin 50) (r : Fin 16) (e : Fin 11) :
    val_main_v7 (F := Ideal) ids h (ix4 b l r e) = h (ix4 (secondRow (ids (ix2 b l)).toNat) r 0 e) := by
  rw [val_main_v7_apply, val_main_call5_v14_apply, second_inside ids hv, ValueIdx.select_one, second_gather ids h hv,
    second_table]

/-- The cosines spread over the fetched rows. -/
theorem cosines (p : Phases) (b : Fin 4096) (l : Fin 50) (r : Fin 16) (e : Fin 12) :
    val_main_v10 (F := Ideal) p (ix4 b l r e) = Ideal.cos (p (ix1 r)) := by
  pointwise [val_main_v10, val_main_v9, val_main_v8]

/-- The reference's result is the embedding. -/
theorem reference_eq (ids : Ids) (g : FirstCore) (h : SecondCore) (p : Phases) (hv : InVocab ids) :
    val_main_v14 (F := Ideal) ids g h p = embedding ids g h p := by
  funext i
  obtain ⟨b, l, d, rfl⟩ : ∃ (b : Fin 4096) (l : Fin 50) (d : Fin 128), i = (ix3 b l d : S4096x50x128.Idx) :=
    ⟨i 0, i 1, i 2, eq_ix3 _⟩
  rw [val_main_v14_apply, val_main_v13_apply]
  have e : idx_main_v13 (idx_main_v14 (ix3 b l d))
      = (ix4 b l ⟨d / 11, by omega⟩ ⟨d % 11, Nat.mod_lt _ (by norm_num)⟩ : S4096x50x12x11.Idx) := by
    funext a
    refine Fin.ext ?_
    have h1 := b.isLt
    have h2 := l.isLt
    have h3 := d.isLt
    match a with
    | ⟨0, _⟩ => show ((b.val * 50 + l.val) * 132 + d.val) / 6600 = b.val; omega
    | ⟨1, _⟩ => show ((b.val * 50 + l.val) * 132 + d.val) / 132 % 50 = l.val; omega
    | ⟨2, _⟩ => show ((b.val * 50 + l.val) * 132 + d.val) / 11 % 12 = d.val / 11; omega
    | ⟨3, _⟩ => show ((b.val * 50 + l.val) * 132 + d.val) % 11 = d.val % 11; omega
  rw [e, val_main_v12_apply]
  show _ = entry ids g h p b l d
  rw [entry]
  refine Finset.sum_congr rfl fun r _ => ?_
  have el : lidx_main_v12 (ix4 b l ⟨d / 11, by omega⟩ ⟨d % 11, Nat.mod_lt _ (by norm_num)⟩) r
      = (ix4 b l r ⟨d / 11, by omega⟩ : S4096x50x16x12.Idx) := by
    funext a; match a with | ⟨0, _⟩ => rfl | ⟨1, _⟩ => rfl | ⟨2, _⟩ => rfl | ⟨3, _⟩ => rfl
  have er : ridx_main_v12 (ix4 b l ⟨d / 11, by omega⟩ ⟨d % 11, Nat.mod_lt _ (by norm_num)⟩) r
      = (ix4 b l r ⟨d % 11, Nat.mod_lt _ (by norm_num)⟩ : S4096x50x16x11.Idx) := by
    funext a; match a with | ⟨0, _⟩ => rfl | ⟨1, _⟩ => rfl | ⟨2, _⟩ => rfl | ⟨3, _⟩ => rfl
  rw [el, er, val_main_v11_apply, first_fetch ids g hv, second_fetch ids h hv, cosines]
  rfl

end Cert.TT

end
-- ==== Proof.Vocab.lean ====
/-
  The precondition: every id is in the vocabulary.

  The precondition is the conjunction, over all ids, of the tests that the id is not negative and lies below 1000000, both on
  signed words.  It gives that every id, read as a natural number, lies below 1000000.
-/
module

public import proofs.«01_k».proof.Pre_ids_in_vocab
public import proofs.«01_k».proof.Proof.Spec
public import Idealize.ShloMosaic.Lib.ReduceAll

@[expose] public section

noncomputable section

namespace Cert.TT

open Idealize.ShloMosaic Cert.Pre_ids_in_vocab

/-- The shape conditions that the precondition's operations ask for. -/
theorem vocabFacts : Cert.Pre_ids_in_vocab.Facts where
  bcast_S_S4096x50 := by decide
  reducesTo_S4096x50_S_d0_1 := by decide
  h_S_ := by decide

/-- A word that passes both tests is a natural number below a million. -/
theorem below_million (w : BitVec 32)
    (h : IntOp.andi (IntOp.cmpi .sge w 0#32) (IntOp.cmpi .slt w 1000000#32) = 1#1) : w.toNat < 1000000 := by
  have key : (0#32).sle w = true ∧ w.slt 1000000#32 = true := by
    rw [IntOp.andi, IntOp.cmpi, IntOp.cmpi] at h
    cases h0 : (0#32).sle w <;> cases h1 : w.slt 1000000#32 <;> simp [h0, h1] at h ⊢
  obtain ⟨h0, h1⟩ := key
  rw [BitVec.sle_eq_decide, decide_eq_true_iff, BitVec.toInt_zero] at h0
  rw [BitVec.slt_eq_decide, decide_eq_true_iff, show (1000000#32).toInt = 1000000 from by decide] at h1
  have := w.isLt
  rw [BitVec.toInt_eq_toNat_cond] at h0 h1
  split at h0 <;> split at h1 <;> omega

/-- Where the precondition holds, every id is in the vocabulary. -/
theorem in_vocab [Cert.Pre_ids_in_vocab.Facts] (ids : Ids) (g : FirstCore) (h : SecondCore) (p : Phases)
    (e : Cert.Pre_ids_in_vocab.fn (F := Ideal) ids g h p = fun _ => 1#1) : InVocab ids := by
  intro b l
  haveI : Subsingleton S_.Idx := ⟨fun x y => funext fun a => a.elim0⟩
  have := Host.reduce_andi_all _ _ _ _ (fun a => a.elim0) (congrFun e fun a => a.elim0) (ix2 b l)
  exact below_million _ this

end Cert.TT

end
-- ==== Proof.lean ====
/-
  The claims about the tensor-train embedding lookup, assembled.

  Kernel and reference both leave the lookup `embedding` of their arguments in the result array, on every memory whose ids are
  in the vocabulary.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Vocab
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.TT

/-- The kernel, from a memory whose ids are in the vocabulary on every device, ends with the lookup of its arguments in the
    result array and with its arguments unchanged. -/
theorem kernel_run
    (m : (ℓ : Loc Cert.KernelIdeal.nD Cert.KernelIdeal.τ Cert.KernelIdeal.sig) → Buf (Elt Ideal) ℓ)
    (ρ : Dev Cert.KernelIdeal.nD → PrngReg)
    (hv : ∀ c : Dev Cert.KernelIdeal.nD,
      InVocab (m ((c.tc : Thread Cert.KernelIdeal.nD Cert.KernelIdeal.τ).loc Cert.KernelIdeal.main_arg0))) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v10)
            = embedding (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
            = m ((c.tc : Thread Cert.KernelIdeal.nD Cert.KernelIdeal.τ).loc Cert.KernelIdeal.main_arg3) :=
  (θ_run Cert.KernelIdeal.defs _ _).mono (fun _ h c => ⟨((h.1 c).1 4).trans (array_eq m c (hv c)), h.2 c⟩)
    (θ_run_and (Cert.KernelIdeal.Gen.run_main m ρ) (Cert.KernelIdeal.Gen.unchanged m ρ))

/-- The kernel runs, its arguments end unchanged and every counter ends at zero. -/
theorem kernel_frame : Cert.quiescent_Kernel := fun m ρ _ => Cert.Kernel.Gen.frame m ρ

/-- The same at exact arithmetic. -/
theorem ideal_frame : Cert.quiescent_KernelIdeal := fun m ρ _ => Cert.KernelIdeal.Gen.frame m ρ

/-- The reference runs, its arguments end unchanged, and it has no counter that could end elsewhere than at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same result, the lookup of the arguments. -/
theorem same_result [hPre : Cert.Pre_ids_in_vocab.Facts] :
    Cert.algebraic_KernelIdeal_ReferenceIdeal_pre_ids_in_vocab := by
  intro m ρ m' ρ' hp ha
  have hv := fun c => in_vocab _ _ _ _ (hp c)
  refine ⟨_, kernel_run m ρ hv, ?_⟩
  refine (θ_run Cert.ReferenceIdeal.defs _ _).mono (fun r h c => ⟨?_, (h c).2⟩)
    (Cert.ReferenceIdeal.Value.run (F := Ideal) m' ρ')
  obtain ⟨h0, h1, h2, h3⟩ := ha c
  rw [(h c).1, Cert.ReferenceIdeal.Read.val_main_v14_eq, h0, h1, h2, h3]
  exact reference_eq _ _ _ _ (hv c)

/-- All the claims. -/
theorem claim : Cert.Claim :=
  ⟨Cert.Kernel.Gen.facts, Cert.KernelIdeal.Gen.facts, Cert.ReferenceIdeal.Gen.facts, vocabFacts, kernel_frame, ideal_frame,
    fun m ρ _ => ideal_frame m ρ trivial, reference_frame, fun m ρ _ => reference_frame m ρ trivial, trivial,
    same_result (hPre := vocabFacts)⟩

end Cert.Proof

end
